-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4x64x32x32 : Shape := ⟨5, ![2, 4, 64, 32, 32]⟩
abbrev S8192x64 : Shape := ⟨2, ![8192, 64]⟩
abbrev S2x4x32x32x64 : Shape := ⟨5, ![2, 4, 32, 32, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S32x1x256 : Shape := ⟨3, ![32, 1, 256]⟩
abbrev S256x64 : Shape := ⟨2, ![256, 64]⟩
abbrev S1x256 : Shape := ⟨2, ![1, 256]⟩
abbrev S1x1x256 : Shape := ⟨3, ![1, 1, 256]⟩
abbrev S8192x256 : Shape := ⟨2, ![8192, 256]⟩
abbrev S256 : Shape := ⟨1, ![256]⟩
abbrev S2x4x32x32 : Shape := ⟨4, ![2, 4, 32, 32]⟩

abbrev nBuf : Space → Nat
  | .hbm => 15
  | .vmem => 8
  | .smem => 0
  | _ => 0

abbrev bufTy : (tb : Table) → Fin (tcTables nBuf tb) → BufTy
  | .hbm, ⟨0, _⟩ => ⟨S2x4x64x32x32, .f32⟩
  | .hbm, ⟨1, _⟩ => ⟨S8192x64, .f32⟩
  | .hbm, ⟨2, _⟩ => ⟨S2x4x32x32x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S32x1x256, .i32⟩
  | .hbm, ⟨14, _⟩ => ⟨S2x4x32x32, .i32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S1x256, .f32⟩
  | .local _ .vmem, ⟨4, _⟩ => ⟨S1x256, .f32⟩
  | .local _ .vmem, ⟨5, _⟩ => ⟨S8192x1, .f32⟩
  | .local _ .vmem, ⟨6, _⟩ => ⟨S1x1x256, .i32⟩
  | .local _ .vmem, ⟨7, _⟩ => ⟨S1x1x256, .i32⟩
  | _, _ => ⟨S2x4x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x4x64x32x32 : Shape := ⟨5, ![2, 4, 64, 32, 32]⟩
abbrev S8192x64 : Shape := ⟨2, ![8192, 64]⟩
abbrev S2x4x32x32x64 : Shape := ⟨5, ![2, 4, 32, 32, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S2x4x32x32 : Shape := ⟨4, ![2, 4, 32, 32]⟩

abbrev nBuf : Space → Nat
  | .hbm => 27
  | .vmem => 0
  | .smem => 0
  | _ => 0

abbrev bufTy : (tb : Table) → Fin (tcTables nBuf tb) → BufTy
  | .hbm, ⟨0, _⟩ => ⟨S2x4x64x32x32, .f32⟩
  | .hbm, ⟨1, _⟩ => ⟨S8192x64, .f32⟩
  | .hbm, ⟨2, _⟩ => ⟨S2x4x32x32x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S64x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S2x4x32x32, .i32⟩
  | _, _ => ⟨S2x4x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.FirstMin.lean ====
/- The mathematics of "the first index at which a list of extended reals is least", and the two ways in which the
   programs compute it: in two passes (the least value, then the least index at which it is reached), and in one
   pass that carries the better of two (value, index) pairs. -/
module

public import Idealize.ShloMosaic.PureOps.Ideal.Laws
public import Idealize.ShloMosaic.PureOps.Reduce
public import Mathlib.Data.Finset.Fold
public import Mathlib.Data.Finset.Max

@[expose] public section

noncomputable section

namespace Cert.Proof

open Idealize.ShloMosaic

variable {n : ℕ}

/-- `k` is the first index at which `D` is least: no value lies below `D k`, and an equal one stands no earlier. -/
def IsFirstMin (D : Fin n → EReal) (k : Fin n) : Prop :=
  ∀ j, D k < D j ∨ (D k = D j ∧ k ≤ j)

/-- A nonempty list of extended reals has a first index at which it is least. -/
theorem exists_isFirstMin (h : 0 < n) (D : Fin n → EReal) : ∃ k, IsFirstMin D k := by
  obtain ⟨k, -, hk⟩ := Finset.exists_min_image (Finset.univ : Finset (Fin n)) (fun k => toLex (D k, k)) ⟨⟨0, h⟩, by simp⟩
  refine ⟨k, fun j => ?_⟩
  have := hk j (Finset.mem_univ j)
  rwa [Prod.Lex.toLex_le_toLex] at this

/-- There is at most one such index. -/
theorem IsFirstMin.unique {D : Fin n → EReal} {k l : Fin n} (hk : IsFirstMin D k) (hl : IsFirstMin D l) : k = l := by
  rcases hk l with h | ⟨e, h⟩
  · rcases hl k with h' | ⟨e', -⟩
    · exact absurd h (not_lt.2 h'.le)
    · exact absurd h (by rw [e']; exact lt_irrefl _)
  · rcases hl k with h' | ⟨-, h'⟩
    · exact absurd h' (by rw [e]; exact lt_irrefl _)
    · exact le_antisymm h h'

/-- The value at that index is at most every value. -/
theorem IsFirstMin.le {D : Fin n → EReal} {k : Fin n} (hk : IsFirstMin D k) (j : Fin n) : D k ≤ D j :=
  (hk j).elim le_of_lt fun h => h.1.le

/-! ## Two passes: the least value, then the least index at which it is reached -/

/-- The least value of the list, folded from `⊤`, is the value at the first minimum. -/
theorem IsFirstMin.fold_min {D : Fin n → EReal} {k : Fin n} (hk : IsFirstMin D k) :
    Finset.univ.fold min ⊤ D = D k := by
  apply le_antisymm
  · rw [Finset.fold_min_le]
    exact .inr ⟨k, Finset.mem_univ k, le_rfl⟩
  · rw [Finset.le_fold_min]
    exact ⟨le_top, fun j _ => hk.le j⟩

/-- A fold of the signed minimum is at least `b`, if the initial word and every word are. -/
theorem le_fold_minsi {ι : Type*} (s : Finset ι) (f : ι → BitVec 32) (w : BitVec 32) (b : Int) (hw : b ≤ w.toInt)
    (hf : ∀ i ∈ s, b ≤ (f i).toInt) : b ≤ (s.fold IntOp.minsi w f).toInt := by
  induction s using Finset.cons_induction with
  | empty => simpa using hw
  | cons a s ha ih =>
    rw [Finset.fold_cons, IntOp.minsi]
    have h1 := hf a (by simp)
    have h2 := ih fun i hi => hf i (by simp [hi])
    split <;> assumption

/-- It is at most every word that it runs over. -/
theorem fold_minsi_le {ι : Type*} (s : Finset ι) (f : ι → BitVec 32) (w : BitVec 32) (i : ι) (hi : i ∈ s) :
    (s.fold IntOp.minsi w f).toInt ≤ (f i).toInt := by
  induction s using Finset.cons_induction with
  | empty => simp at hi
  | cons a s ha ih =>
    rw [Finset.fold_cons, IntOp.minsi]
    have e : ∀ x y : BitVec 32, x.slt y = decide (x.toInt < y.toInt) := fun x y => rfl
    rcases Finset.mem_cons.1 hi with rfl | hi
    · split
      · exact le_rfl
      · rename_i h; simpa [e] using h
    · have := ih hi
      split
      · rename_i h
        simp only [e, decide_eq_true_eq] at h
        omega
      · exact this

/-- A short index read as a signed word is itself. -/
theorem toInt_ofNat_of_lt {k : ℕ} (h : k < 2 ^ 30) : (BitVec.ofNat 32 k).toInt = k := by
  rw [BitVec.toInt_eq_toNat_of_lt] <;> rw [BitVec.toNat_ofNat] <;> omega

/-- THE TWO PASSES: the least of the indices at which the value is at most the least value (the others are replaced by
    the large word `2 ^ 30`) is the first minimum's. -/
theorem IsFirstMin.two_pass {D : Fin n → EReal} {k : Fin n} (hk : IsFirstMin D k) (hn : n ≤ 2 ^ 30) :
    Finset.univ.fold IntOp.minsi (2147483647#32)
      (fun j : Fin n => if D j ≤ Finset.univ.fold min ⊤ D then BitVec.ofNat 32 j else 1073741824#32) = BitVec.ofNat 32 k := by
  rw [hk.fold_min]
  have hkn := k.isLt
  have hlt : (k : ℕ) < 2 ^ 30 := by omega
  have hb : (1073741824#32).toInt = 1073741824 := by decide
  have hi : (2147483647#32).toInt = 2147483647 := by decide
  apply BitVec.eq_of_toInt_eq
  rw [toInt_ofNat_of_lt hlt]
  apply le_antisymm
  · refine (fold_minsi_le _ _ _ k (Finset.mem_univ k)).trans ?_
    rw [if_pos le_rfl, toInt_ofNat_of_lt hlt]
  · refine le_fold_minsi _ _ _ _ (by rw [hi]; omega) fun j _ => ?_
    have hj := j.isLt
    split
    · rename_i hle
      rw [toInt_ofNat_of_lt (by omega)]
      rcases hk j with h | ⟨-, h⟩
      · exact absurd h (not_lt.2 hle)
      · have : (k : ℕ) ≤ j := h
        omega
    · rw [hb]; omega

/-! ## One pass: the better of two (value, index) pairs -/

/-- The better of two pairs: the lesser value, and on equal values the lesser index (as a signed word). -/
def better (a b : EReal × BitVec 32) : EReal × BitVec 32 :=
  if a.1 < b.1 ∨ (a.1 = b.1 ∧ a.2.toInt < b.2.toInt) then a else b

/-- "At least as good a pair": the order in which `better` takes a minimum. -/
def AtLeastAsGood (a b : EReal × BitVec 32) : Prop :=
  a.1 < b.1 ∨ (a.1 = b.1 ∧ a.2.toInt ≤ b.2.toInt)

/-- A pair is at least as good as itself. -/
theorem AtLeastAsGood.refl (a : EReal × BitVec 32) : AtLeastAsGood a a := .inr ⟨rfl, le_rfl⟩

/-- "At least as good" is transitive. -/
theorem AtLeastAsGood.trans {a b c : EReal × BitVec 32} (h : AtLeastAsGood a b) (h' : AtLeastAsGood b c) :
    AtLeastAsGood a c := by
  rcases h with h | ⟨e, h⟩ <;> rcases h' with h' | ⟨e', h'⟩
  · exact .inl (h.trans h')
  · exact .inl (e' ▸ h)
  · exact .inl (e ▸ h')
  · exact .inr ⟨e.trans e', h.trans h'⟩

/-- The better of two pairs is at least as good as the first. -/
theorem better_left (a b : EReal × BitVec 32) : AtLeastAsGood (better a b) a := by
  unfold better
  split
  · exact .refl a
  · rename_i h
    push Not at h
    rcases h.1.lt_or_eq with hl | he
    · exact .inl hl
    · exact .inr ⟨he, h.2 he.symm⟩

/-- The better of two pairs is at least as good as the second. -/
theorem better_right (a b : EReal × BitVec 32) : AtLeastAsGood (better a b) b := by
  unfold better
  split
  · rename_i h
    exact h.imp_right fun h => ⟨h.1, h.2.le⟩
  · exact .refl b

/-- A fold of `better` gives the initial pair or one of the pairs, and one at least as good as all of them. -/
theorem foldl_better (l : List (EReal × BitVec 32)) (a : EReal × BitVec 32) :
    (l.foldl better a = a ∨ l.foldl better a ∈ l) ∧ AtLeastAsGood (l.foldl better a) a
      ∧ ∀ p ∈ l, AtLeastAsGood (l.foldl better a) p := by
  induction l generalizing a with
  | nil => exact ⟨.inl rfl, .refl a, by simp⟩
  | cons b l ih =>
    obtain ⟨hm, ha, hl⟩ := ih (better a b)
    rw [List.foldl_cons]
    refine ⟨?_, ha.trans (better_left a b), fun p hp => ?_⟩
    · rcases hm with hm | hm
      · rw [hm]
        unfold better
        split
        · exact .inl rfl
        · exact .inr (by simp)
      · exact .inr (List.mem_cons_of_mem _ hm)
    · rcases List.mem_cons.1 hp with rfl | hp
      · exact ha.trans (better_right a p)
      · exact hl p hp

/-- THE ONE PASS: over a list that holds exactly the pairs (value, index) of `D`, in any order, from the pair `(⊤, 0)`,
    the index carried to the end is the first minimum's. -/
theorem IsFirstMin.one_pass {D : Fin n → EReal} {k : Fin n} (hk : IsFirstMin D k) (hn : n ≤ 2 ^ 30)
    (l : List (EReal × BitVec 32)) (hl : ∀ p, p ∈ l ↔ ∃ j : Fin n, p = (D j, BitVec.ofNat 32 j)) :
    (l.foldl better (⊤, 0#32)).2 = BitVec.ofNat 32 k := by
  obtain ⟨hm, ha, hall⟩ := foldl_better l (⊤, 0#32)
  generalize l.foldl better (⊤, 0#32) = r at hm ha hall ⊢
  have hkn := k.isLt
  have hk0 := hall _ ((hl _).2 ⟨k, rfl⟩)
  have hkI : (BitVec.ofNat 32 (k : ℕ)).toInt = (k : ℕ) := toInt_ofNat_of_lt (by omega)
  apply BitVec.eq_of_toInt_eq
  rw [hkI]
  rcases hm with rfl | hm
  · -- the initial pair survived: then every value is `⊤`, and the first minimum is the index zero
    have h0 : (0#32 : BitVec 32).toInt = 0 := by decide
    rcases hk0 with h | ⟨e, -⟩
    · exact absurd h not_top_lt
    · rcases hk ⟨0, by omega⟩ with h | ⟨-, h⟩
      · exact absurd h (by simp only at e; rw [← e]; exact not_top_lt)
      · have : (k : ℕ) ≤ 0 := h
        show (0#32 : BitVec 32).toInt = _
        rw [h0]; omega
  · obtain ⟨j, rfl⟩ := (hl _).1 hm
    have hjn := j.isLt
    have hjI : (BitVec.ofNat 32 (j : ℕ)).toInt = (j : ℕ) := toInt_ofNat_of_lt (by omega)
    rcases hk0 with h | ⟨e, h⟩
    · exact absurd h (not_lt.2 (hk.le j))
    · simp only [hkI, hjI] at e h ⊢
      rcases hk j with h' | ⟨-, h'⟩
      · exact absurd h' (by rw [e]; exact lt_irrefl _)
      · have : (k : ℕ) ≤ j := h'
        omega

end Cert.Proof

end

end
-- ==== Proof.Distance.lean ====
/- What both programs compute, stated over the two argument arrays: the squared distances between the latent vectors
   and the codes, and for each latent vector the number of its nearest code. -/
module

public import proofs.«01_k».proof.Proof.FirstMin
public import Idealize.ShloMosaic.Lib.Pointwise

@[expose] public section

noncomputable section

namespace Cert.Proof

open Idealize.ShloMosaic

/-- The latents: batch, time, channel, height, width. -/
abbrev Latents := Vec Ideal ⟨5, ![2, 4, 64, 32, 32]⟩ .f32
/-- The codebook: code, channel. -/
abbrev Codebook := Vec Ideal ⟨2, ![8192, 64]⟩ .f32

/-- Channel `k` of latent vector number `n`, the vectors numbered along batch, time, height, width. -/
def latent (x : Latents) (n : Fin 8192) (k : Fin 64) : EReal :=
  x (ix5 ⟨n / 4096, by omega⟩ ⟨n / 1024 % 4, by omega⟩ k ⟨n / 32 % 32, by omega⟩ ⟨n % 32, by omega⟩)

/-- The squared distance of latent vector `n` and code `j`, as both programs expand it: the two squared norms less twice
    the inner product. -/
def dist (x : Latents) (e : Codebook) (n j : Fin 8192) : EReal :=
  ∑ k, latent x n k * latent x n k + ∑ k, e (ix2 j k) * e (ix2 j k) - 2 * ∑ k, latent x n k * e (ix2 j k)

/-- The first nearest code of latent vector `n`. -/
def code (x : Latents) (e : Codebook) (n : Fin 8192) : Fin 8192 :=
  (exists_isFirstMin (by norm_num) (dist x e n)).choose

/-- It is the first index at which the vector's distances are least. -/
theorem code_isFirstMin (x : Latents) (e : Codebook) (n : Fin 8192) : IsFirstMin (dist x e n) (code x e n) :=
  (exists_isFirstMin (by norm_num) (dist x e n)).choose_spec

/-- THE RESULT: at batch, time, height, width, the number of the first nearest code of that latent vector. -/
def codes (x : Latents) (e : Codebook) : Vec Ideal ⟨4, ![2, 4, 32, 32]⟩ .i32 := fun i =>
  BitVec.ofNat 32 (code x e ⟨(i 0).val * 4096 + (i 1).val * 1024 + (i 2).val * 32 + (i 3).val, by
    have h0 : (i 0).val < 2 := (i 0).isLt
    have h1 : (i 1).val < 4 := (i 1).isLt
    have h2 : (i 2).val < 32 := (i 2).isLt
    have h3 : (i 3).val < 32 := (i 3).isLt
    omega⟩)

/-- The bit pattern of plus infinity is the top of the extended reals. -/
theorem ofBits_inf : Ideal.ofBits .f32 2139095040#32 = ⊤ := by
  simp [Ideal.ofBits, Ideal.ieee]

/-- The bit pattern of the programs' factor is two. -/
theorem ofBits_two : Ideal.ofBits .f32 1073741824#32 = 2 := by
  simp [Ideal.ofBits, Ideal.ieee, -EReal.coe_mul]
  norm_num
  rfl

end Cert.Proof

end

end
-- ==== Proof.Kernel.lean ====
/- The kernel's result: the number of the first nearest code of every latent vector. -/
module

public import proofs.«01_k».proof.Proof.Gen.KernelIdeal.Frame
public import proofs.«01_k».proof.Proof.Distance
public import Idealize.ShloMosaic.Lib.Pipeline.ValueKit
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The latents as the program finds them. -/
abbrev kx : Latents := m (c.tc.loc main_arg0)
/-- The codebook as the program finds it. -/
abbrev ke : Codebook := m (c.tc.loc main_arg1)

/-! ## The arrays when the region is entered -/

/-- The flattened latents hold latent vector `n` in row `n`. -/
theorem entry_latents (n : Fin 8192) (k : Fin 64) :
    (V m c main_v1 : Vec Ideal S8192x64 .f32) (ix2 n k) = latent (kx m c) n k := by
  simp only [V, V0, hostOps0, List.flatten_cons, List.flatten_nil, List.append_nil, List.cons_append, List.nil_append]
  after_results
  pointwise
  rfl

/-- The latents' squared norms, as a row. -/
theorem entry_latent_norms (n : Fin 8192) :
    (V m c main_v5 : Vec Ideal S1x8192 .f32) (ix2 0 n) = ∑ k, latent (kx m c) n k * latent (kx m c) n k := by
  simp only [V, V0, hostOps0, List.flatten_cons, List.flatten_nil, List.append_nil, List.cons_append, List.nil_append]
  after_results
  pointwise
  rfl

/-- The codes' squared norms, as a column. -/
theorem entry_code_norms (j : Fin 8192) :
    (V m c main_v8 : Vec Ideal S8192x1 .f32) (ix2 j 0) = ∑ k, ke m c (ix2 j k) * ke m c (ix2 j k) := by
  simp only [V, V0, hostOps0, List.flatten_cons, List.flatten_nil, List.append_nil, List.cons_append, List.nil_append]
  after_results
  pointwise

/-! ## The blocks at a grid point -/

/-- The block index of every window at point `t`. -/
theorem win_index : ∀ t : Fin cfg0.N, win0_0.index t = ![t.val, 0] ∧ win0_1.index t = ![0, 0] ∧ win0_2.index t = ![0, t.val]
    ∧ win0_3.index t = ![0, 0] ∧ win0_4.index t = ![t.val, 0, 0] ∧ t.val < 32 :=
  (by decide +kernel : ∀ t : Fin grid0.N, _)

/-- The number of the latent vector in row `r` of tile `t`. -/
def vecNo (t : Fin cfg0.N) (r : Fin 256) : Fin 8192 :=
  ⟨t.val * 256 + r.val, by have := (win_index t).2.2.2.2.2; omega⟩

/-- Tile `t`'s block of latents holds latent vector `256 t + r` in row `r`. -/
theorem block_latents (t : Fin cfg0.N) (r : Fin 256) (k : Fin 64) :
    (iblk m c 0 t : Vec Ideal S256x64 .f32) (ix2 r k) = latent (kx m c) (vecNo t r) k := by
  rw [← entry_latents]
  blk_ext [iblk, win_index t, vecNo]

/-- Every tile's block of codes is the whole codebook. -/
theorem block_codes (t : Fin cfg0.N) (j : Fin 8192) (k : Fin 64) :
    (iblk m c 1 t : Vec Ideal S8192x64 .f32) (ix2 j k) = ke m c (ix2 j k) := by
  blk_ext! [iblk, V, win_index t]

/-- Tile `t`'s block of latent norms holds the squared norm of latent vector `256 t + r` in column `r`. -/
theorem block_latent_norms (t : Fin cfg0.N) (r : Fin 256) :
    (iblk m c 2 t : Vec Ideal S1x256 .f32) (ix2 0 r)
      = ∑ k, latent (kx m c) (vecNo t r) k * latent (kx m c) (vecNo t r) k := by
  rw [← entry_latent_norms]
  blk_ext [iblk, win_index t, vecNo]

/-- Every tile's block of code norms holds all the codes' squared norms. -/
theorem block_code_norms (t : Fin cfg0.N) (j : Fin 8192) :
    (iblk m c 3 t : Vec Ideal S8192x1 .f32) (ix2 j 0) = ∑ k, ke m c (ix2 j k) * ke m c (ix2 j k) := by
  rw [← entry_code_norms]
  blk_ext [iblk, win_index t]

/-! ## The body at a row of its tile -/

/-- THE BODY AT ROW `r`: if the loaded blocks give the distances `D`, the two passes give the first minimum of `D`. -/
theorem body_row (v0 : Vec Ideal S256x64 .f32) (v2 : Vec Ideal S8192x64 .f32) (v4 : Vec Ideal S1x256 .f32)
    (v6 : Vec Ideal S8192x1 .f32) (r : Fin 256) (D : Fin 8192 → EReal) (k : Fin 8192) (hk : IsFirstMin D k)
    (hD : ∀ j, v4 (ix2 0 r) + v6 (ix2 j 0) - 2 * ∑ l, v2 (ix2 j l) * v0 (ix2 r l) = D j) :
    k0_pay1 v0 v2 v4 v6 (ix3 0 0 r) = BitVec.ofNat 32 k := by
  pointwise [k0_pay1]
  simp only [ofBits_two, ofBits_inf, hD]
  exact hk.two_pass (by norm_num)

/-- The body at row `r` of tile `t`, over the arrays' blocks there: the first nearest code of that latent vector. -/
theorem body_at (t : Fin cfg0.N) (r : Fin 256) :
    k0_pay1 (iblk m c 0 t) (iblk m c 1 t) (iblk m c 2 t) (iblk m c 3 t) (ix3 0 0 r)
      = BitVec.ofNat 32 (code (kx m c) (ke m c) (vecNo t r)) := by
  refine body_row _ _ _ _ r _ _ (code_isFirstMin (kx m c) (ke m c) (vecNo t r)) fun j => ?_
  have h := Finset.sum_congr (rfl : (Finset.univ : Finset (Fin 64)) = _) fun l _ =>
    (congrArg₂ (fun a b : EReal => a * b) (block_codes m c t j l) (block_latents m c t r l)).trans (mul_comm _ _)
  exact congrArg₂ (fun a b : EReal => a - 2 * b)
    (congrArg₂ (fun a b : EReal => a + b) (block_latent_norms m c t r) (block_code_norms m c t j)) h

/-! ## The result array -/

/-- The output array: the tile's row, then the column, numbers the latent vector. -/
def tiles (x : Latents) (e : Codebook) : Vec Ideal S32x1x256 .i32 := fun i =>
  BitVec.ofNat 32 (code x e ⟨(i 0).val * 256 + (i 2).val, by
    have h0 : (i 0).val < 32 := (i 0).isLt
    have h2 : (i 2).val < 256 := (i 2).isLt
    omega⟩)

/-- The output array at the place of latent vector `n`. -/
theorem tiles_apply (x : Latents) (e : Codebook) (i : S32x1x256.Idx) (n : Fin 8192)
    (h : (i 0).val * 256 + (i 2).val = n.val) : tiles x e i = BitVec.ofNat 32 (code x e n) := by
  unfold tiles
  rw [show (⟨(i 0).val * 256 + (i 2).val, _⟩ : Fin 8192) = n from Fin.ext h]

/-- What the region leaves in its output array. -/
theorem region_result : (dats m 0 c).arrAt 4 cfg0.N = tiles (kx m c) (ke m c) := by
  refine (dats m 0 c).arrAt_eq_of_covers 4 _ (by decide +kernel) fun t hf y => ?_
  blk_simp
  rw [after0_4]
  frame_out
  obtain ⟨r, rfl⟩ : ∃ r : Fin 256, y = ix3 0 0 r := ⟨y 2, by blk_ext⟩
  refine (body_at m c t r).trans (tiles_apply _ _ _ _ ?_).symm
  blk_simp [win_index t, vecNo]
  simp

/-- What the program leaves in its result, after the reshape that ends it. -/
theorem kernel_result :
    Pipeline.afterTail₀ cfgs (dats m) 0 (V0 m) [hostOps1] c main_v10 = codes (kx m c) (ke m c) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v9) = _
    from Pipeline.withArrays_arr spec0 (by decide) c _ _ 4]
  refine (congrArg (fun a : Vec Ideal S32x1x256 .i32 => shapeCast S2x4x32x32 a shapeCasts_S32x1x256_S2x4x32x32)
    (region_result m c)).trans ?_
  funext j
  idx_vars j
  pointwise
  refine tiles_apply _ _ _ _ ?_
  show (j0.val * 16 + j1.val * 4 + j2.val / 8) * 256 + (j2.val % 8 * 32 + j3.val)
    = j0.val * 4096 + j1.val * 1024 + j2.val * 32 + j3.val
  omega

end Cert.Proof

end

end
-- ==== Proof.Reference.lean ====
/- The reference's result: the number of the first nearest code of every latent vector. Its arg-min over the codes is
   read at one row, as the first index at which the row is least. -/
module

public import proofs.«01_k».proof.Proof.Gen.ReferenceIdeal
public import proofs.«01_k».proof.Proof.Distance
public import Idealize.ShloMosaic.Lib.Pointwise

@[expose] public section

set_option maxRecDepth 16384

noncomputable section

namespace Cert.Proof

open Idealize.ShloMosaic Cert.ReferenceIdeal

/-- The reference's reducer keeps the better of two (value, index) pairs. -/
theorem reducer_eq_better : reducer_argmin_f32_i32 (F := Ideal) = better := by
  funext a b
  obtain ⟨x, i⟩ := a
  obtain ⟨y, j⟩ := b
  simp only [reducer_argmin_f32_i32, better, Ideal.cmpf_def, Ideal.cmp, IntOp.cmpi, IntOp.ori, IntOp.andi, Scalar.select,
    BitVec.slt]
  rcases lt_trichotomy (x : EReal) y with h | h | h
  · simp [h, h.ne]
  · subst h
    by_cases hij : i.toInt < j.toInt <;> simp [hij]
  · simp [h.not_gt, h.ne']

/-- THE REFERENCE'S ARG-MIN AT A ROW: the first index at which the row is least. -/
theorem argReduce_row (D : Vec Ideal S8192x8192 .f32) (u : Vec Ideal S_ .f32) (v : Vec Ideal S_ .i32)
    (hu : ∀ i, u i = (⊤ : EReal)) (hv : ∀ i, v i = 0#32) (iota : Vec Ideal S8192x8192 .i32)
    (hi : ∀ n k : Fin 8192, iota (ix2 n k) = BitVec.ofNat 32 k) (h : S8192x8192.ReducesTo [1] S8192) (h0 : 0 < S_.numel)
    (n k : Fin 8192) (hk : IsFirstMin (fun j => D (ix2 n j)) k) :
    (Host.argReduce (F := Ideal) (φ := .f32) reducer_argmin_f32_i32 D iota u v h h0 (ix1 n)).2 = BitVec.ofNat 32 k := by
  rw [Ideal.argReduce_eq_reduce2, Host.reduce2_eq_foldl_fiber, reducer_eq_better, hu, hv]
  refine hk.one_pass (by norm_num) _ fun p => ?_
  have hd : ∀ i : S8192x8192.Idx, h.drop i = ix1 n ↔ ∃ j : Fin 8192, i = ix2 n j := by
    intro i
    have hv0 := h.drop_apply_val_of_eq i 0 0
    constructor
    · intro hin
      rw [hin] at hv0
      refine ⟨i 1, funext fun a => ?_⟩
      fin_cases a
      · exact Fin.ext hv0.symm
      · rfl
    · rintro ⟨j, rfl⟩
      funext a
      fin_cases a
      exact Fin.ext hv0
  simp only [Host.argReduceFiber, List.mem_map, List.mem_filter, List.mem_finRange, true_and, decide_eq_true_eq]
  constructor
  · rintro ⟨q, hq, rfl⟩
    obtain ⟨j, hj⟩ := (hd _).1 hq
    exact ⟨j, by rw [hj, hi]⟩
  · rintro ⟨j, rfl⟩
    refine ⟨S8192x8192.rowMajor (ix2 n j), ?_, ?_⟩
    · rw [Equiv.symm_apply_apply]; exact (hd _).2 ⟨j, rfl⟩
    · rw [Equiv.symm_apply_apply, hi]

/-- The reference's arg-min over a table that holds the squared distances, at latent vector `n`: the number of its first
    nearest code. -/
theorem argReduce_code (x : Latents) (e : Codebook) (D : Vec Ideal S8192x8192 .f32)
    (h : S8192x8192.ReducesTo [1] S8192) (h0 : 0 < S_.numel) (n : Fin 8192)
    (hD : ∀ j : Fin 8192, D (ix2 n j) = dist x e n j) :
    (Host.argReduce (F := Ideal) (φ := .f32) reducer_argmin_f32_i32 D (iotaInDim S8192x8192 32 1)
      (constant S_ .f32 2139095040#32) (constantI S_ 32 0#32) h h0 (ix1 n)).2 = BitVec.ofNat 32 (code x e n) := by
  refine argReduce_row _ _ _ (fun _ => ofBits_inf) (fun _ => rfl) _ (fun _ _ => rfl) _ _ n _ ?_
  simp only [hD]
  exact code_isFirstMin x e n

/-- The codes' numbers, listed by latent vector and then laid out by batch, time, height, width, are the result. -/
theorem codes_of_list (x : Latents) (e : Codebook) (X : S8192.Idx → BitVec 32) (h : S8192.ShapeCasts S2x4x32x32)
    (hX : ∀ n : Fin 8192, X (ix1 n) = BitVec.ofNat 32 (code x e n)) :
    (fun i => shapeCast S2x4x32x32 X h i) = codes x e := by
  funext j
  idx_vars j
  pointwise
  exact hX _

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel
public import proofs.«01_k».proof.Proof.Reference
public import Idealize.ShloMosaic.Lib.Claim
public import Idealize.ShloMosaic.Lib.Quiescent
public import Idealize.ShloMosaic.Lib.Tactic.CleanTypes
public import Idealize.ShloMosaic.Adequacy
public import Idealize.ShloMosaic.Init

@[expose] public section

set_option maxRecDepth 16384

noncomputable section

namespace Cert.Proof

open Idealize.ShloMosaic Idealize.SL.Sem

/-- The kernel runs to completion, leaves its arguments as they were and every counter at zero. -/
theorem frame_kernel : Cert.quiescent_Kernel := fun m ρ _ => Cert.Kernel.Gen.frame m ρ

/-- So does the kernel read over the extended reals. -/
theorem frame_kernelIdeal : Cert.quiescent_KernelIdeal := fun m ρ _ => Cert.KernelIdeal.Gen.frame m ρ

/-- So does the reference read over the extended reals; it has no semaphore at all. -/
theorem frame_reference : Cert.quiescent_ReferenceIdeal := by
  intro m g _
  hlo_run
  · exact fun _ => ⟨trivial, trivial⟩
  · exact sem_eq_zero_of_no_sems (by decide) r.2

/-- THE VALUE CLAIM: over the extended reals the kernel and the reference end with the same numbers of nearest codes, on
    all arguments. -/
theorem algebraic : Cert.algebraic_KernelIdeal_ReferenceIdeal := by
  pair_intro
  · run_from Cert.KernelIdeal.Gen.run_main m g
    exact Cert.KernelIdeal.Gen.W_main_arg0 m _ c
  · hlo_run
    refine Eq.trans ?_ (kernel_result m c).symm
    simp only [StableHlo.TRef.ofBuf_toBuf]
    simp only [StableHlo.TRef.ofBuf, StableHlo.TRef.toBuf, cast_eq]
    clean_types
    refine codes_of_list (kx m c) (ke m c) _ _ fun n => ?_
    beta_reduce
    refine argReduce_code _ _ _ _ _ n fun j => ?_
    pointwise
    rw [ofBits_two]
    rfl

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
